-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S512x128 : Shape := ⟨2, ![512, 128]⟩
abbrev S512 : Shape := ⟨1, ![512]⟩

abbrev nBuf : Space → Nat
  | .hbm => 53
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S320000x1, .i32⟩
  | .hbm, ⟨12, _⟩ => ⟨S1, .i32⟩
  | .hbm, ⟨13, _⟩ => ⟨S_, .i32⟩
  | .hbm, ⟨14, _⟩ => ⟨S320000x1, .i32⟩
  | .hbm, ⟨15, _⟩ => ⟨S320000x1, .i1⟩
  | .hbm, ⟨16, _⟩ => ⟨S1x1, .i32⟩
  | .hbm, ⟨17, _⟩ => ⟨S320000x1, .i32⟩
  | .hbm, ⟨18, _⟩ => ⟨S320000x1, .i1⟩
  | .hbm, ⟨19, _⟩ => ⟨S320000x1, .i1⟩
  | .hbm, ⟨20, _⟩ => ⟨S_, .i1⟩
  | .hbm, ⟨21, _⟩ => ⟨S320000, .i1⟩
  | .hbm, ⟨22, _⟩ => ⟨S320000x128, .f32⟩
  | .hbm, ⟨23, _⟩ => ⟨S320000x128, .i1⟩
  | .hbm, ⟨24, _⟩ => ⟨S_, .f32⟩
  | .hbm, ⟨25, _⟩ => ⟨S320000x128, .f32⟩
  | .hbm, ⟨26, _⟩ => ⟨S320000x128, .f32⟩
  | .hbm, ⟨27, _⟩ => ⟨S1x320000, .i32⟩
  | .hbm, ⟨28, _⟩ => ⟨S320000, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S1, .i32⟩
  | .hbm, ⟨38, _⟩ => ⟨S_, .i32⟩
  | .hbm, ⟨39, _⟩ => ⟨S320000x1, .i32⟩
  | .hbm, ⟨40, _⟩ => ⟨S320000x1, .i1⟩
  | .hbm, ⟨41, _⟩ => ⟨S1x1, .i32⟩
  | .hbm, ⟨42, _⟩ => ⟨S320000x1, .i32⟩
  | .hbm, ⟨43, _⟩ => ⟨S320000x1, .i1⟩
  | .hbm, ⟨44, _⟩ => ⟨S320000x1, .i1⟩
  | .hbm, ⟨45, _⟩ => ⟨S_, .i1⟩
  | .hbm, ⟨46, _⟩ => ⟨S320000, .i1⟩
  | .hbm, ⟨47, _⟩ => ⟨S320000x128, .f32⟩
  | .hbm, ⟨48, _⟩ => ⟨S320000x128, .i1⟩
  | .hbm, ⟨49, _⟩ => ⟨S_, .f32⟩
  | .hbm, ⟨50, _⟩ => ⟨S320000x128, .f32⟩
  | .hbm, ⟨51, _⟩ => ⟨S320000x128, .f32⟩
  | .hbm, ⟨52, _⟩ => ⟨S320000, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512, .f32⟩
  | .local _ .vmem, ⟨5, _⟩ => ⟨S512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 68
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S1, .i32⟩
  | .hbm, ⟨38, _⟩ => ⟨S_, .i32⟩
  | .hbm, ⟨39, _⟩ => ⟨S320000x1, .i32⟩
  | .hbm, ⟨40, _⟩ => ⟨S320000x1, .i1⟩
  | .hbm, ⟨41, _⟩ => ⟨S1x1, .i32⟩
  | .hbm, ⟨42, _⟩ => ⟨S320000x1, .i32⟩
  | .hbm, ⟨43, _⟩ => ⟨S320000x1, .i1⟩
  | .hbm, ⟨44, _⟩ => ⟨S320000x1, .i1⟩
  | .hbm, ⟨45, _⟩ => ⟨S_, .i1⟩
  | .hbm, ⟨46, _⟩ => ⟨S320000, .i1⟩
  | .hbm, ⟨47, _⟩ => ⟨S320000x128, .f32⟩
  | .hbm, ⟨48, _⟩ => ⟨S320000x128, .i1⟩
  | .hbm, ⟨49, _⟩ => ⟨S_, .f32⟩
  | .hbm, ⟨50, _⟩ => ⟨S320000x128, .f32⟩
  | .hbm, ⟨51, _⟩ => ⟨S320000x128, .f32⟩
  | .hbm, ⟨52, _⟩ => ⟨S320000x128, .f32⟩
  | .hbm, ⟨53, _⟩ => ⟨S_, .f32⟩
  | .hbm, ⟨54, _⟩ => ⟨S320000, .f32⟩
  | .hbm, ⟨55, _⟩ => ⟨S320000x128, .f32⟩
  | .hbm, ⟨56, _⟩ => ⟨S_, .f32⟩
  | .hbm, ⟨57, _⟩ => ⟨S320000, .f32⟩
  | .hbm, ⟨58, _⟩ => ⟨S320000, .f32⟩
  | .hbm, ⟨59, _⟩ => ⟨S320000x128, .f32⟩
  | .hbm, ⟨60, _⟩ => ⟨S_, .f32⟩
  | .hbm, ⟨61, _⟩ => ⟨S320000, .f32⟩
  | .hbm, ⟨62, _⟩ => ⟨S320000, .f32⟩
  | .hbm, ⟨63, _⟩ => ⟨S320000, .f32⟩
  | .hbm, ⟨64, _⟩ => ⟨S_, .f32⟩
  | .hbm, ⟨65, _⟩ => ⟨S320000, .f32⟩
  | .hbm, ⟨66, _⟩ => ⟨S320000, .f32⟩
  | .hbm, ⟨67, _⟩ => ⟨S320000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_cst_0 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_1 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_2 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩

abbrev nD : Nat := 1
abbrev τ : Topo := Topo.v7x

variable {F : FTy → Type} [FloatOps F]
-- ==== Proof.Cosine.lean ====
/- The mathematics of one edge: the cosine similarity of two rows of 128 extended reals. -/
module

public import Idealize.ShloMosaic.PureOps.Ideal
public import Idealize.ShloMosaic.Lib.Pointwise.Reduce

@[expose] public section

noncomputable section

namespace Cert.Cosine

open Idealize.ShloMosaic

/-- The product of two rows, summed over their 128 features. -/
def dot (a b : Fin 128 → EReal) : EReal := ∑ k, a k * b k

/-- The cosine similarity of two rows: their product over the product of their lengths, which is taken to be at least
    the literal `1e-8` (the rational that its float word stands for). -/
def cosine (a b : Fin 128 → EReal) : EReal :=
  Ideal.div (dot a b) (max (Ideal.sqrt (dot a a) * Ideal.sqrt (dot b b)) (Ideal.ofBits .f32 0x322BCC77#32))

/-- Row `r` of a matrix with 128 columns. -/
def row {n : Nat} (A : (⟨2, ![n, 128]⟩ : Shape).Idx → EReal) (r : Fin n) : Fin 128 → EReal :=
  fun k => A (ix2 r k)

/-- Entry by entry, the cosine similarity of the rows of two matrices. -/
def cosines {n : Nat} (A B : (⟨2, ![n, 128]⟩ : Shape).Idx → EReal) (i : (⟨1, ![n]⟩ : Shape).Idx) : EReal :=
  cosine (row A (i 0)) (row B (i 0))

/-- The TensorCore's sum along the columns, of a product entry by entry, is the rows' `dot`. -/
theorem kernel_sum {n : Nat} (A B : FVec Ideal ⟨2, ![n, 128]⟩ .f32)
    (h : (⟨2, ![n, 128]⟩ : Shape).Reduces [1] ⟨1, ![n]⟩) (hφ : FKind.Formats .f32)
    (hacc : (0x00000000#32 : BitVec 32) = FKind.add.neutral .f32 hφ) (i : (⟨1, ![n]⟩ : Shape).Idx) :
    multiReduction .add [1] ⟨1, ![n]⟩ (mulf A B) 0x00000000#32 h hφ hacc i = dot (row A (i 0)) (row B (i 0)) :=
  Ideal.reduceAdd_r2_a1 h (mulf A B) i

/-- The host's sum along the columns, from a zero, is the same `dot`. -/
theorem host_sum {n : Nat} (A B : FVec Ideal ⟨2, ![n, 128]⟩ .f32)
    (h : (⟨2, ![n, 128]⟩ : Shape).ReducesTo [1] ⟨1, ![n]⟩) (hu : 0 < (⟨0, ![]⟩ : Shape).numel)
    (i : (⟨1, ![n]⟩ : Shape).Idx) :
    Host.reduceAdd (mulf A B) (constant ⟨0, ![]⟩ .f32 0x00000000#32) h hu i = dot (row A (i 0)) (row B (i 0)) := by
  refine (Ideal.hostReduceAdd_r2_a1 h (mulf A B) (Ideal.ofBits .f32 0x00000000#32) i).trans ?_
  have h0 : Ideal.ofBits .f32 0x00000000#32 = 0 := by simp
  rw [h0, zero_add]
  rfl

/-- The host's quotient of these sums, with the least product of lengths given as a constant array `w`, is the rows'
    cosine similarity. -/
theorem host_cosines {n : Nat} (A B : FVec Ideal ⟨2, ![n, 128]⟩ .f32)
    (h : (⟨2, ![n, 128]⟩ : Shape).ReducesTo [1] ⟨1, ![n]⟩) (hu : 0 < (⟨0, ![]⟩ : Shape).numel)
    (w : FVec Ideal ⟨1, ![n]⟩ .f32) (hw : w = fun _ => Ideal.ofBits .f32 0x322BCC77#32) (i : (⟨1, ![n]⟩ : Shape).Idx) :
    Host.divf (Host.reduceAdd (mulf A B) (constant ⟨0, ![]⟩ .f32 0x00000000#32) h hu)
      (maximumf
        (mulf (Host.sqrt (Host.reduceAdd (mulf A A) (constant ⟨0, ![]⟩ .f32 0x00000000#32) h hu))
          (Host.sqrt (Host.reduceAdd (mulf B B) (constant ⟨0, ![]⟩ .f32 0x00000000#32) h hu)))
        w) i
      = cosines A B i := by
  subst hw
  exact congrArg₂ Ideal.div (host_sum A B h hu i)
    (congrArg (max · (Ideal.ofBits .f32 0x322BCC77#32))
      (congrArg₂ (fun p q => Ideal.sqrt p * Ideal.sqrt q) (host_sum A A h hu i) (host_sum B B h hu i)))

end Cert.Cosine

end
-- ==== Proof.Block.lean ====
/- What the TensorCore call leaves in its result: block by block, and so in the whole array, the cosine similarity of
   the rows of its two operands. -/
module

public import proofs.«01_k».proof.Defs
public import proofs.«01_k».proof.Proof.Cosine
public import proofs.«01_k».proof.Proof.Gen.KernelIdeal.Value
public import Idealize.ShloMosaic.Lib.Pipeline.Value
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One grid point's result: entry `y` of the block is the cosine similarity of row `y` of the two blocks read. -/
theorem out_apply (x0 x1 : Vec Ideal S512x128 .f32) (y : S512.Idx) :
    out0_2 x0 x1 y = Cert.Cosine.cosines (n := 512) x0 x1 y := by
  have hz : (![0] : Fin 1 → Nat) = fun _ => 0 := funext fun a => by fin_cases a; rfl
  have hz2 : (![0, 0] : Fin 2 → Nat) = fun _ => 0 := funext fun a => by fin_cases a <;> rfl
  unfold out0_2
  rw [View.canon_unit_zero hz, View.ld_unit_zero hz2, View.ld_unit_zero hz2]
  unfold k0_pay1
  dsimp only
  rw [shapeCast_self, shapeCast_self]
  exact congrArg₂ Ideal.div (Cert.Cosine.kernel_sum (n := 512) x0 x1 _ _ _ y)
    (congrArg (max · (Ideal.ofBits .f32 0x322BCC77#32))
      (congrArg₂ (fun p q => Ideal.sqrt p * Ideal.sqrt q) (Cert.Cosine.kernel_sum (n := 512) x0 x0 _ _ _ y)
        (Cert.Cosine.kernel_sum (n := 512) x1 x1 _ _ _ y)))

/-- The array of all edges' similarities, from the two gathered operands as the call finds them. -/
abbrev whole (c : Dev nD) : Buf (Elt Ideal) ((c : Thread nD τ).loc main_v6) :=
  Cert.Cosine.cosines (n := 320000) (V m c main_v2) (V m c main_v5)

/-- The first operand's block of grid point `t` starts at row `512 t`, -/
theorem start0 : ∀ t : Fin cfg0.N, win0_0.index t 0 = t.val ∧ win0_0.index t 1 = 0 :=
  (by decide +kernel : ∀ t : Fin grid0.N, win0_0.index t 0 = t.val ∧ win0_0.index t 1 = 0)

/-- and so does the second's. -/
theorem start1 : ∀ t : Fin cfg0.N, win0_1.index t 0 = t.val ∧ win0_1.index t 1 = 0 :=
  (by decide +kernel : ∀ t : Fin grid0.N, win0_1.index t 0 = t.val ∧ win0_1.index t 1 = 0)

/-- Row `y` of the first operand's block is the row of the array that entry `y` of the result's block names, -/
theorem row0 (c : Dev nD) (t : Fin cfg0.N) (y : S512.Idx) :
    Cert.Cosine.row (n := 512) (iblk m c 0 t) (y 0)
      = Cert.Cosine.row (n := 320000) (V m c main_v2) ((win0_2.blk t).view.emb y 0) := by
  funext k
  unfold iblk Cert.Cosine.row
  show V m c main_v2 ((win0_0.blk t).view.emb (ix2 (n0 := 512) (y 0) k)) = _
  refine congrArg (V m c main_v2) (funext fun a => Fin.ext ?_)
  have e := start0 t
  have e2 : win0_2.index t 0 = t.val := Value.idx_pt2 t
  match a with
  | ⟨0, _⟩ => blk_simp [e.1, e2]
  | ⟨1, _⟩ => blk_simp [e.2]

/-- and row `y` of the second operand's block likewise. -/
theorem row1 (c : Dev nD) (t : Fin cfg0.N) (y : S512.Idx) :
    Cert.Cosine.row (n := 512) (iblk m c 1 t) (y 0)
      = Cert.Cosine.row (n := 320000) (V m c main_v5) ((win0_2.blk t).view.emb y 0) := by
  funext k
  unfold iblk Cert.Cosine.row
  show V m c main_v5 ((win0_1.blk t).view.emb (ix2 (n0 := 512) (y 0) k)) = _
  refine congrArg (V m c main_v5) (funext fun a => Fin.ext ?_)
  have e := start1 t
  have e2 : win0_2.index t 0 = t.val := Value.idx_pt2 t
  match a with
  | ⟨0, _⟩ => blk_simp [e.1, e2]
  | ⟨1, _⟩ => blk_simp [e.2]

/-- After the call the result array holds them: the 625 blocks of 512 entries cover it. -/
theorem final (c : Dev nD) : (dats m 0 c).arrAt 2 cfg0.N = whole m c := by
  refine (dats m 0 c).arrAt_eq_of_covers 2 _ (by decide +kernel) fun t hf y => ?_
  rw [after0_2]
  exact (out_apply _ _ y).trans (congrArg₂ Cert.Cosine.cosine (row0 m c t y) (row1 m c t y))

end Cert.KernelIdeal.Block

end
-- ==== Proof.Gathered.lean ====
/- The host code in front of the TensorCore call: which rows the two gathered operands hold. -/
module

public import proofs.«01_k».proof.Defs
public import proofs.«01_k».proof.Proof.Gen.KernelIdeal.Frame
public import Idealize.ShloMosaic.Lib.StableHlo.Run

@[expose] public section

noncomputable section

namespace Cert.KernelIdeal.Gathered

open Cert.KernelIdeal Cert.KernelIdeal.Gen Idealize.ShloMosaic Idealize.ShloMosaic.TcCoe Idealize.SL.Sem
open Idealize.ShloMosaic.StableHlo

/-- The row numbers as the gather takes them: a negative number counts from the end of the 10000 rows. -/
def wrapped (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- Which edges' row numbers lie in the table. -/
def inTable (idx : IVec S320000 32) : IVec S320000 1 :=
  Host.reduce IntOp.andi
    (andi (cmpi .sge (wrapped idx) (broadcastInDim S320000x1 ![] bcast_S_S320000x1 (constantI S_ 32 0#32)))
      (cmpi .sle (wrapped idx)
        (broadcastInDim S320000x1 ![0, 1] bcast_S1x1_S320000x1_0_1
          (broadcastInDim S1x1 ![1] bcast_S1_S1x1_1 (constantI S1 32 9999#32)))))
    (constantI S_ 1 1#1) reducesTo_S320000x1_S320000_d1 h_S_

/-- The table's rows at given row numbers, as `jnp.take` lays them out: an edge whose number lies outside the table gets
    a row of the fill value. -/
def taken (h : FVec Ideal S10000x128 .f32) (idx : IVec S320000 32) : FVec Ideal S320000x128 .f32 :=
  select (broadcastInDim S320000x128 ![0] bcast_S320000_S320000x128_0 (inTable idx))
    (Host.gather gather_S10000x128_S320000x1_S320000x128_1_0_n_n_0_1_1128 h (wrapped idx))
    (broadcastInDim S320000x128 ![] bcast_S_S320000x128 (constant S_ .f32 0x7FC00000#32))

/-- The edges' first end points, -/
def sources (e : IVec S2x320000 32) : IVec S320000 32 :=
  shapeCast S320000 (extractStridedSlice S1x320000 ![0, 0] e slices_S2x320000_S1x320000_0_0) shapeCasts_S1x320000_S320000

/-- and their second ones. -/
def targets (e : IVec S2x320000 32) : IVec S320000 32 :=
  shapeCast S320000 (extractStridedSlice S1x320000 ![1, 0] e slices_S2x320000_S1x320000_1_0) shapeCasts_S1x320000_S320000

variable (m : (ℓ : Loc nD τ sig) → Buf (Elt Ideal) ℓ)

set_option maxRecDepth 8192 in
set_option maxHeartbeats 4000000 in
/-- The call finds the table's rows at the edges' first end points in its first operand, -/
theorem first (c : Dev nD) :
    V m c main_v2 = taken (m ((c : Thread nD τ).loc main_arg0)) (sources (m ((c : Thread nD τ).loc main_arg1))) := by
  unfold V
  simp only [hostOps0, hostOps0_1, hostOps0_2, hostOps0_3, List.flatten_cons, List.flatten_nil, List.append_nil,
    List.cons_append, List.nil_append, TRef.binary, TRef.nullary, TRef.ternary, TRef.unary, TRef.toBuf, TRef.ofBuf, cast_eq]
  after_results_simp
  rfl

set_option maxRecDepth 8192 in
set_option maxHeartbeats 4000000 in
/-- and those at the second end points in its second. -/
theorem second (c : Dev nD) :
    V m c main_v5 = taken (m ((c : Thread nD τ).loc main_arg0)) (targets (m ((c : Thread nD τ).loc main_arg1))) := by
  unfold V
  simp only [hostOps0, hostOps0_1, hostOps0_2, hostOps0_3, List.flatten_cons, List.flatten_nil, List.append_nil,
    List.cons_append, List.nil_append, TRef.binary, TRef.nullary, TRef.ternary, TRef.unary, TRef.toBuf, TRef.ofBuf, cast_eq]
  after_results_simp
  rfl

end Cert.KernelIdeal.Gathered

end
-- ==== Proof.Reference.lean ====
/- What the reference's host program leaves: the cosine similarity of the rows it gathers, which are the rows that the
   kernel's host code gathers. -/
module

public import proofs.«01_k».proof.Defs
public import proofs.«01_k».proof.Proof.Cosine
public import proofs.«01_k».proof.Proof.Gathered
public import proofs.«01_k».proof.Proof.Gen.ReferenceIdeal.Run

@[expose] public section

noncomputable section

namespace Cert.ReferenceIdeal.Similarity

open Cert.ReferenceIdeal Cert.ReferenceIdeal.Gen Idealize.ShloMosaic Idealize.ShloMosaic.TcCoe Idealize.SL.Sem
open Cert.KernelIdeal.Gathered (taken sources targets)

/-- The reference's operations after the gathers, on any two matrices: entry by entry the rows' cosine similarity. -/
theorem tail_apply (A B : FVec Ideal S320000x128 .f32) (i : S320000.Idx) :
    Host.divf (Host.reduceAdd (mulf A B) (constant S_ .f32 0x00000000#32) reducesTo_S320000x128_S320000_d1 h_S_)
      (maximumf
        (mulf (Host.sqrt (Host.reduceAdd (mulf A A) (constant S_ .f32 0x00000000#32) reducesTo_S320000x128_S320000_d1 h_S_))
          (Host.sqrt (Host.reduceAdd (mulf B B) (constant S_ .f32 0x00000000#32) reducesTo_S320000x128_S320000_d1 h_S_)))
        (broadcastInDim S320000 ![] bcast_S_S320000 (constant S_ .f32 0x322BCC77#32))) i
      = Cert.Cosine.cosines (n := 320000) A B i :=
  Cert.Cosine.host_cosines (n := 320000) A B _ _ _ rfl i

variable (m : (ℓ : Loc nD τ sig) → Buf (Elt Ideal) ℓ)

/-- The reference's result: the similarity of the table's rows at each edge's two end points. -/
theorem result (c : Dev nD) :
    Value.res_out0 m c = Cert.Cosine.cosines (n := 320000)
      (taken (m ((c : Thread nD τ).loc main_arg0)) (sources (m ((c : Thread nD τ).loc main_arg1))))
      (taken (m ((c : Thread nD τ).loc main_arg0)) (targets (m ((c : Thread nD τ).loc main_arg1)))) := by
  funext i
  unfold Value.res_out0 Value.res_main_v17
  exact tail_apply (taken (m ((c : Thread nD τ).loc main_arg0)) (sources (m ((c : Thread nD τ).loc main_arg1))))
    (taken (m ((c : Thread nD τ).loc main_arg0)) (targets (m ((c : Thread nD τ).loc main_arg1)))) i

end Cert.ReferenceIdeal.Similarity

end
-- ==== Proof.lean ====
/- The five claims about the cosine similarity of each edge's end points, assembled: the frames of the kernel, of its
   ideal reading and of the reference; that nothing was rewritten; and that kernel and reference compute one function
   over the extended reals. `Proof/Cosine.lean` has the mathematics of one edge, `Proof/Block.lean` the TensorCore call,
   `Proof/Gathered.lean` the host code before it, `Proof/Reference.lean` the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Block
public import proofs.«01_k».proof.Proof.Gathered
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference terminates and leaves its arguments as they were; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments, the kernel's result array is the reference's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_out0 m' c = Cert.KernelIdeal.Block.whole m c := by
  refine (Cert.ReferenceIdeal.Similarity.result m' c).trans ?_
  rw [h0, h1]
  unfold Cert.KernelIdeal.Block.whole
  rw [Cert.KernelIdeal.Gathered.first m c, Cert.KernelIdeal.Gathered.second m c]

/-- Kernel and reference compute the same function over the extended reals, whatever the table and the row numbers. -/
theorem algebraic : Cert.algebraic_KernelIdeal_ReferenceIdeal := by
  intro m ρ m' ρ' _ hagree
  refine ⟨fun c => Cert.KernelIdeal.Block.whole m c, ?_, ?_⟩
  · exact (θ_run Cert.KernelIdeal.defs _ _).mono
      (fun _ h c => ⟨(h c).1.trans (Cert.KernelIdeal.Block.final m c), (h c).2⟩)
      (Cert.KernelIdeal.Value.run_blocks (F := Ideal) m ρ)
  · exact (θ_run Cert.ReferenceIdeal.defs _ _).mono
      (fun _ h c => ⟨(h c).1.trans (results_agree m m' c (hagree c).1 (hagree c).2), (h c).2⟩)
      (Cert.ReferenceIdeal.Value.run (F := Ideal) m' ρ')

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
